-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_betas_finite [hPre_betas_finite : Cert.Pre_betas_finite.Facts] (m : (ℓ : Loc Cert.KernelIdeal.nD Cert.KernelIdeal.τ Cert.KernelIdeal.sig) → Buf (Elt Ideal) ℓ) : Prop :=
  ∀ c : Dev Cert.KernelIdeal.nD,
    (Cert.Pre_betas_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_betas_finite [hPre_betas_finite : Cert.Pre_betas_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_betas_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_betas_finite [hKernelIdeal : Cert.KernelIdeal.Facts] [hPre_betas_finite : Cert.Pre_betas_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_betas_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_betas_finite [hReferenceIdeal : Cert.ReferenceIdeal.Facts] [hPre_betas_finite : Cert.Pre_betas_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_betas_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_betas_finite [hKernelIdeal : Cert.KernelIdeal.Facts] [hReferenceIdeal : Cert.ReferenceIdeal.Facts] [hPre_betas_finite : Cert.Pre_betas_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_betas_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_betas_finite : Cert.Pre_betas_finite.Facts),
    quiescent_Kernel (hKernel := hKernel)
    ∧ quiescent_KernelIdeal (hKernelIdeal := hKernelIdeal)
    ∧ quiescent_KernelIdeal_pre_betas_finite (hKernelIdeal := hKernelIdeal) (hPre_betas_finite := hPre_betas_finite)
    ∧ quiescent_ReferenceIdeal (hReferenceIdeal := hReferenceIdeal)
    ∧ quiescent_ReferenceIdeal_pre_betas_finite (hReferenceIdeal := hReferenceIdeal) (hPre_betas_finite := hPre_betas_finite)
    ∧ preserves_Kernel_KernelIdeal
    ∧ algebraic_KernelIdeal_ReferenceIdeal_pre_betas_finite (hKernelIdeal := hKernelIdeal) (hReferenceIdeal := hReferenceIdeal) (hPre_betas_finite := hPre_betas_finite)
-- ==== Pre_betas_finite.lean ====
abbrev S131072x512 : Shape := ⟨2, ![131072, 512]⟩
abbrev S29x1 : Shape := ⟨2, ![29, 1]⟩
abbrev S_ : Shape := ⟨0, ![]⟩

class Facts : Prop where
  bcast_S_S29x1 : S_.BroadcastsInDim S29x1 (![] : Fin 0 → Fin S29x1.rank)
  reducesTo_S29x1_S_d0_1 : S29x1.ReducesTo [0, 1] S_
  h_S_ : 0 < S_.numel

variable [Facts]

def fn {F : FTy → Type} [FloatOps F] (main_arg0 : FVec F S131072x512 .f32) (main_arg1 : FVec F S131072x512 .f32) (main_arg2 : FVec F S29x1 .f32) : IVec S_ 1 :=
  let main_v0 : FVec F S29x1 .f32 := Host.absf main_arg2
  let main_cst : FVec F S_ .f32 := constant S_ .f32 0x7F800000#32
  let main_v1 : FVec F S29x1 .f32 := broadcastInDim S29x1 ![] bcast_S_S29x1 main_cst
  let main_v2 : IVec S29x1 1 := cmpf .olt main_v0 main_v1
  let main_c : IVec S_ 1 := constantI S_ 1 1#1
  let main_v3 : IVec S_ 1 := (fun x v => Host.reduce IntOp.andi x v reducesTo_S29x1_S_d0_1 h_S_) main_v2 main_c
  main_v3
-- ==== Kernel.lean ====
abbrev S131072x512 : Shape := ⟨2, ![131072, 512]⟩
abbrev S29x1 : Shape := ⟨2, ![29, 1]⟩
abbrev S29 : Shape := ⟨1, ![29]⟩
abbrev S_ : Shape := ⟨0, ![]⟩
abbrev S8x128 : Shape := ⟨2, ![8, 128]⟩
abbrev S1 : Shape := ⟨1, ![1]⟩
abbrev S2 : Shape := ⟨1, ![2]⟩
abbrev S16384x8x512 : Shape := ⟨3, ![16384, 8, 512]⟩
abbrev S32x1x128 : Shape := ⟨3, ![32, 1, 128]⟩
abbrev S512x8x512 : Shape := ⟨3, ![512, 8, 512]⟩
abbrev S1x1x128 : Shape := ⟨3, ![1, 1, 128]⟩
abbrev S512x8 : Shape := ⟨2, ![512, 8]⟩
abbrev S512x8x1 : Shape := ⟨3, ![512, 8, 1]⟩
abbrev S1x128 : Shape := ⟨2, ![1, 128]⟩
abbrev S512x8x128 : Shape := ⟨3, ![512, 8, 128]⟩
abbrev S1x512x8x128 : Shape := ⟨4, ![1, 512, 8, 128]⟩
abbrev S1x1x1x1 : Shape := ⟨4, ![1, 1, 1, 1]⟩
abbrev S32x1x1 : Shape := ⟨3, ![32, 1, 1]⟩
abbrev S32 : Shape := ⟨1, ![32]⟩

abbrev nBuf : Space → Nat
  | .hbm => 30
  | .vmem => 7
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S29x1, .f32⟩
  | .hbm, ⟨3, _⟩ => ⟨S29, .f32⟩
  | .hbm, ⟨4, _⟩ => ⟨S_, .f32⟩
  | .hbm, ⟨5, _⟩ => ⟨S8x128, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S8x128, .f32⟩
  | .hbm, ⟨12, _⟩ => ⟨S29, .f32⟩
  | .hbm, ⟨13, _⟩ => ⟨S_, .f32⟩
  | .hbm, ⟨14, _⟩ => ⟨S29, .f32⟩
  | .hbm, ⟨15, _⟩ => ⟨S29, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S8x128, .f32⟩
  | .hbm, ⟨22, _⟩ => ⟨S16384x8x512, .f32⟩
  | .hbm, ⟨23, _⟩ => ⟨S16384x8x512, .f32⟩
  | .hbm, ⟨24, _⟩ => ⟨S32x1x128, .f32⟩
  | .hbm, ⟨25, _⟩ => ⟨S32x1x1, .f32⟩
  | .hbm, ⟨26, _⟩ => ⟨S32, .f32⟩
  | .hbm, ⟨27, _⟩ => ⟨S_, .f32⟩
  | .hbm, ⟨28, _⟩ => ⟨S_, .f32⟩
  | .hbm, ⟨29, _⟩ => ⟨S1, .f32⟩
  | .local _ .vmem, ⟨0, _⟩ => ⟨S512x8x512, .f32⟩
  | .local _ .vmem, ⟨1, _⟩ => ⟨S512x8x512, .f32⟩
  | .local _ .vmem, ⟨2, _⟩ => ⟨S512x8x512, .f32⟩
  | .local _ .vmem, ⟨3, _⟩ => ⟨S512x8x512, .f32⟩
  | .local _ .vmem, ⟨4, _⟩ => ⟨S8x128, .f32⟩
  | .local _ .vmem, ⟨5, _⟩ => ⟨S1x1x128, .f32⟩
  | .local _ .vmem, ⟨6, _⟩ => ⟨S1x1x128, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S131072x512 : Shape := ⟨2, ![131072, 512]⟩
abbrev S29x1 : Shape := ⟨2, ![29, 1]⟩
abbrev S29 : Shape := ⟨1, ![29]⟩
abbrev S29x1x1 : Shape := ⟨3, ![29, 1, 1]⟩
abbrev S65536x2x512 : Shape := ⟨3, ![65536, 2, 512]⟩
abbrev S65536x1x512 : Shape := ⟨3, ![65536, 1, 512]⟩
abbrev S65536x512 : Shape := ⟨2, ![65536, 512]⟩
abbrev S_ : Shape := ⟨0, ![]⟩
abbrev S65536 : Shape := ⟨1, ![65536]⟩
abbrev S65536x1 : Shape := ⟨2, ![65536, 1]⟩
abbrev S65536x4 : Shape := ⟨2, ![65536, 4]⟩
abbrev S1x65536x4 : Shape := ⟨3, ![1, 65536, 4]⟩
abbrev S29x65536x4 : Shape := ⟨3, ![29, 65536, 4]⟩
abbrev S29x65536x1 : Shape := ⟨3, ![29, 65536, 1]⟩
abbrev S29x65536 : Shape := ⟨2, ![29, 65536]⟩
abbrev S1x29 : Shape := ⟨2, ![1, 29]⟩
abbrev S1x1 : Shape := ⟨2, ![1, 1]⟩
abbrev S1 : Shape := ⟨1, ![1]⟩

abbrev nBuf : Space → Nat
  | .hbm => 70
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S29x1, .f32⟩
  | .hbm, ⟨3, _⟩ => ⟨S29, .f32⟩
  | .hbm, ⟨4, _⟩ => ⟨S29x1x1, .f32⟩
  | .hbm, ⟨5, _⟩ => ⟨S65536x2x512, .f32⟩
  | .hbm, ⟨6, _⟩ => ⟨S65536x2x512, .f32⟩
  | .hbm, ⟨7, _⟩ => ⟨S65536x1x512, .f32⟩
  | .hbm, ⟨8, _⟩ => ⟨S65536x512, .f32⟩
  | .hbm, ⟨9, _⟩ => ⟨S65536x1x512, .f32⟩
  | .hbm, ⟨10, _⟩ => ⟨S65536x512, .f32⟩
  | .hbm, ⟨11, _⟩ => ⟨S65536x512, .f32⟩
  | .hbm, ⟨12, _⟩ => ⟨S65536x512, .f32⟩
  | .hbm, ⟨13, _⟩ => ⟨S_, .f32⟩
  | .hbm, ⟨14, _⟩ => ⟨S65536, .f32⟩
  | .hbm, ⟨15, _⟩ => ⟨S65536x1x512, .f32⟩
  | .hbm, ⟨16, _⟩ => ⟨S65536x512, .f32⟩
  | .hbm, ⟨17, _⟩ => ⟨S65536x1x512, .f32⟩
  | .hbm, ⟨18, _⟩ => ⟨S65536x512, .f32⟩
  | .hbm, ⟨19, _⟩ => ⟨S65536x512, .f32⟩
  | .hbm, ⟨20, _⟩ => ⟨S65536x512, .f32⟩
  | .hbm, ⟨21, _⟩ => ⟨S_, .f32⟩
  | .hbm, ⟨22, _⟩ => ⟨S65536, .f32⟩
  | .hbm, ⟨23, _⟩ => ⟨S65536x1x512, .f32⟩
  | .hbm, ⟨24, _⟩ => ⟨S65536x512, .f32⟩
  | .hbm, ⟨25, _⟩ => ⟨S65536x1x512, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S_, .f32⟩
  | .hbm, ⟨30, _⟩ => ⟨S65536, .f32⟩
  | .hbm, ⟨31, _⟩ => ⟨S65536x1x512, .f32⟩
  | .hbm, ⟨32, _⟩ => ⟨S65536x512, .f32⟩
  | .hbm, ⟨33, _⟩ => ⟨S65536x1x512, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S65536x1, .f32⟩
  | .hbm, ⟨41, _⟩ => ⟨S65536x1, .f32⟩
  | .hbm, ⟨42, _⟩ => ⟨S65536x1, .f32⟩
  | .hbm, ⟨43, _⟩ => ⟨S65536x4, .f32⟩
  | .hbm, ⟨44, _⟩ => ⟨S1x65536x4, .f32⟩
  | .hbm, ⟨45, _⟩ => ⟨S1x65536x4, .f32⟩
  | .hbm, ⟨46, _⟩ => ⟨S29x65536x4, .f32⟩
  | .hbm, ⟨47, _⟩ => ⟨S29x65536x4, .f32⟩
  | .hbm, ⟨48, _⟩ => ⟨S29x65536x4, .f32⟩
  | .hbm, ⟨49, _⟩ => ⟨S29x65536x4, .f32⟩
  | .hbm, ⟨50, _⟩ => ⟨S29x65536x1, .f32⟩
  | .hbm, ⟨51, _⟩ => ⟨S29x65536, .f32⟩
  | .hbm, ⟨52, _⟩ => ⟨S29x65536x1, .f32⟩
  | .hbm, ⟨53, _⟩ => ⟨S29x65536, .f32⟩
  | .hbm, ⟨54, _⟩ => ⟨S29x65536, .f32⟩
  | .hbm, ⟨55, _⟩ => ⟨S29x65536x1, .f32⟩
  | .hbm, ⟨56, _⟩ => ⟨S29x65536, .f32⟩
  | .hbm, ⟨57, _⟩ => ⟨S29x65536, .f32⟩
  | .hbm, ⟨58, _⟩ => ⟨S29x65536x1, .f32⟩
  | .hbm, ⟨59, _⟩ => ⟨S29x65536, .f32⟩
  | .hbm, ⟨60, _⟩ => ⟨S29x65536, .f32⟩
  | .hbm, ⟨61, _⟩ => ⟨S_, .f32⟩
  | .hbm, ⟨62, _⟩ => ⟨S29, .f32⟩
  | .hbm, ⟨63, _⟩ => ⟨S29x1, .f32⟩
  | .hbm, ⟨64, _⟩ => ⟨S_, .f32⟩
  | .hbm, ⟨65, _⟩ => ⟨S29x1, .f32⟩
  | .hbm, ⟨66, _⟩ => ⟨S29x1, .f32⟩
  | .hbm, ⟨67, _⟩ => ⟨S1x29, .f32⟩
  | .hbm, ⟨68, _⟩ => ⟨S1x1, .f32⟩
  | .hbm, ⟨69, _⟩ => ⟨S1, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_4 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pointwise
public import Idealize.ShloMosaic.Lib.Pipeline.ValueKit
public import Idealize.ShloMosaic.Init

@[expose] public section

set_option maxRecDepth 16384

noncomputable section

/-! # What one grid point stores

The body of the kernel, read as a formula: over the 512 groups of eight rows that the point holds, each even row is
paired with the row after it, and the point's value is the sum, over the pairs and over the 128 lanes of the small
table, of four exponentials times a weight. -/

namespace Cert.KernelIdeal.Block

open Idealize.ShloMosaic Cert.KernelIdeal Cert.KernelIdeal.Gen Idealize.ShloMosaic.Pointwise

/-- The sum over the coordinates of the squared differences of two rows. -/
def sqDist (u v : Fin 512 → EReal) : EReal := ∑ x, (u x - v x) * (u x - v x)

/-- The row after row `r` of a group of eight, the last one followed by the first. -/
def next (r : Fin 8) : Fin 8 := ⟨(r.val + 8 - 7) % 8, Nat.mod_lt _ (by decide)⟩

/-- The four exponentials of a pair of rows `u, u'` of the first operand and `v, v'` of the second, with the
    kernel's order of subtraction and the factor `c` in the exponents. -/
def four (u u' v v' : Fin 512 → EReal) (c : EReal) : EReal :=
  Ideal.exp (sqDist u u' * c) + Ideal.exp (sqDist v v' * c) - Ideal.exp (sqDist u v' * c) - Ideal.exp (sqDist v u' * c)

/-- What a grid point stores, from its blocks of the two operands and the table. -/
def part (X Y : Vec Ideal S512x8x512 .f32) (A : Vec Ideal S8x128 .f32) : EReal :=
  ∑ b : Fin 512, ∑ r : Fin 8, ∑ l : Fin 128, if r.val % 2 = 0 then
    four (fun x => X (ix3 b r x)) (fun x => X (ix3 b (next r) x)) (fun x => Y (ix3 b r x)) (fun x => Y (ix3 b (next r) x))
      (A (ix2 0 l)) * A (ix2 1 l) else 0

/-- The first three exponentials, at a row and a lane. -/
theorem threeTerms_at (x0 x1 : Vec Ideal S512x8x512 .f32) (x2 : Vec Ideal S1x128 .f32) (b : Fin 512) (r : Fin 8) (l : Fin 128) :
    k0_pay7 (F := Ideal) x0 x1 x2 (ix3 b r l) =
      Ideal.exp (sqDist (fun x => x0 (ix3 b r x)) (fun x => x0 (ix3 b (next r) x)) * x2 (ix2 0 l))
        + Ideal.exp (sqDist (fun x => x1 (ix3 b r x)) (fun x => x1 (ix3 b (next r) x)) * x2 (ix2 0 l))
        - Ideal.exp (sqDist (fun x => x0 (ix3 b r x)) (fun x => x1 (ix3 b (next r) x)) * x2 (ix2 0 l)) := by
  pointwise [k0_pay7, k0_pay2, k0_pay3, k0_pay4, k0_pay5]
  rfl

/-- The last pair's squared distance, the same in every lane. -/
theorem lastDist_at (x0 x1 : Vec Ideal S512x8x512 .f32) (b : Fin 512) (r : Fin 8) (l : Fin 128) :
    k0_pay8 (F := Ideal) x0 x1 (ix3 b r l) = sqDist (fun x => x1 (ix3 b r x)) (fun x => x0 (ix3 b (next r) x)) := by
  pointwise [k0_pay8, k0_pay2, k0_pay3, k0_pay4, k0_pay5]
  rfl

/-- The choice the body makes by a row's number, computed on 32-bit words: the first value on even rows, the second on
    odd ones. -/
theorem parity_select (r : Fin 8) (p q : EReal) :
    Scalar.select
      (IntOp.cmpi CmpIPredicate.eq
        (Scalar.select
          (IntOp.andi
            (IntOp.xori
              (IntOp.cmpi CmpIPredicate.slt
                (IntOp.remsi ArithUnit.vector (BitVec.ofNat 32 ↑r)
                  (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (IntOp.cmpi CmpIPredicate.ne
              (IntOp.remsi ArithUnit.vector (BitVec.ofNat 32 ↑r)
                (Scalar.select (Scalar.cmpi CmpIPredicate.eq 2#32 0#32) 1#32 2#32))
              0#32))
          (IntOp.addi
            (IntOp.remsi ArithUnit.vector (BitVec.ofNat 32 ↑r)
              (Scalar.select (Scalar.cmpi CmpIPredicate.eq 2#32 0#32) 1#32 2#32))
            (Scalar.select (Scalar.cmpi CmpIPredicate.eq 2#32 0#32) 1#32 2#32))
          (IntOp.remsi ArithUnit.vector (BitVec.ofNat 32 ↑r)
            (Scalar.select (Scalar.cmpi CmpIPredicate.eq 2#32 0#32) 1#32 2#32)))
        0#32) p q = if r.val % 2 = 0 then p else q := by
  fin_cases r <;> rfl

/-- The body's sum over the whole block, the last exponential subtracted and the weight applied on the even rows. -/
theorem total_at (c w : Vec Ideal S1x1x128 .f32) (x y : FVec Ideal S512x8x128 .f32) (j : S1x1x128.Idx) :
    k0_pay1 (F := Ideal) c w x y j = ∑ b : Fin 512, ∑ r : Fin 8, ∑ l : Fin 128,
      if r.val % 2 = 0 then (x (ix3 b r l) - Ideal.exp (y (ix3 b r l) * c (ix3 0 0 l))) * w (ix3 0 0 l) else 0 := by
  pointwise [k0_pay1]
  rw [Ideal.reduceAdd_total _ (by decide), sum_idx4]
  simp only [Finset.univ_unique, Finset.sum_singleton]
  refine Finset.sum_congr rfl fun b _ => Finset.sum_congr rfl fun r _ => Finset.sum_congr rfl fun l _ => ?_
  pointwise []
  exact parity_select r _ _

/-- The table row read as the exponents' factors, at a lane. -/
theorem factors_at (v : Vec Ideal S1x128 .f32) (l : Fin 128) : k0_pay5 (F := Ideal) v (ix3 0 0 l) = v (ix2 0 l) := by
  pointwise [k0_pay5]

/-- The table row read as the weights, at a lane. -/
theorem weights_at (v : Vec Ideal S1x128 .f32) (l : Fin 128) : k0_pay6 (F := Ideal) v (ix3 0 0 l) = v (ix2 0 l) := by
  pointwise [k0_pay6]

/-- The zero offsets of a rank-three block. -/
theorem offsets_zero : (![0, 0, 0] : Fin 3 → ℕ) = fun _ => 0 := by decide

/-- The first row of the table, read through its one-row window. -/
theorem tableRow0_at (A : Vec Ideal S8x128 .f32) (l : Fin 128) : View.ld A r0_1 (ix2 0 l) = A (ix2 0 l) :=
  View.ld_unit_apply_of (Val := Elt Ideal) (e := .f32) A _ _ _ _ _ fun a => by fin_cases a <;> simp

/-- The second row of the table, read through its one-row window. -/
theorem tableRow1_at (A : Vec Ideal S8x128 .f32) (l : Fin 128) : View.ld A r0_2 (ix2 0 l) = A (ix2 1 l) :=
  View.ld_unit_apply_of (Val := Elt Ideal) (e := .f32) A _ _ _ _ _ fun a => by fin_cases a <;> simp

/-- Every lane of what a grid point stores is its `part`. -/
theorem stored_at (X Y : Vec Ideal S512x8x512 .f32) (A : Vec Ideal S8x128 .f32) (j : S1x1x128.Idx) :
    out0_3 (F := Ideal) X Y A j = part X Y A := by
  unfold out0_3
  rw [View.canon_unit_zero offsets_zero, View.ld_unit_zero offsets_zero, View.ld_unit_zero offsets_zero, total_at]
  unfold part four
  refine Finset.sum_congr rfl fun b _ => Finset.sum_congr rfl fun r _ => Finset.sum_congr rfl fun l _ => ?_
  rw [threeTerms_at, lastDist_at, factors_at, weights_at, tableRow0_at, tableRow1_at]

end Cert.KernelIdeal.Block
-- ==== Proof.Entry.lean ====
module

public import proofs.«01_k».proof.Proof.Gen.KernelIdeal.Frame
public import Idealize.ShloMosaic.Lib.Pointwise
public import Idealize.ShloMosaic.Lib.Pipeline.ValueKit
public import Idealize.ShloMosaic.Lib.Routing.OpsSet
public import Idealize.ShloMosaic.Lib.StableHlo.RunRead
public import Idealize.ShloMosaic.Init

@[expose] public section

set_option maxRecDepth 16384

noncomputable section

/-! # What the grid finds

The host fills an 8 by 128 table: row 0 holds the 29 factors of the exponents, row 1 the 29 weights divided by the number
of pairs, and all the rest is zero. The two operands are regrouped, eight rows to a group. -/

namespace Cert.KernelIdeal.Entry

open Idealize.ShloMosaic Cert.KernelIdeal Cert.KernelIdeal.Gen Idealize.ShloMosaic.Pointwise

/-- Writing 29 entries into row `q` of the table, from lane 0: the corner's two coordinates are two words. -/
def setRow (q : BitVec 32) (T : Vec Ideal S8x128 .f32) (u : Vec Ideal S29 .f32) : Vec Ideal S8x128 .f32 :=
  Host.scatter scatter_S8x128_S2_S29_0_0_01_0 (fun _ b => b) T
    (concatenate S2 0 [⟨S1, (broadcastInDim S1 ![] bcast_S_S1 (constantI S_ 32 q))⟩, ⟨S1, (broadcastInDim S1 ![] bcast_S_S1 (constantI S_ 32 0#32))⟩] concatenates_S1_S1_S2_d0) u

/-- Entry `k` of the update lands in the row that the first word names, at the lane `k` plus the second word. -/
theorem lands_iff (idx : IVec S2 32) (k : Fin 29) (i : Fin 8) (l : Fin 128) :
    scatter_S8x128_S2_S29_0_0_01_0.resultIdx? (ix1 k) idx = some (ix2 i l) ↔
      (idx (ix1 0)).toInt = (i.val : Int) ∧ (idx (ix1 1)).toInt + (k.val : Int) = (l.val : Int) := by
  refine (Routing.resultIdx?_ix2 _ _ _ _ _).trans ?_
  have h0 : scatter_S8x128_S2_S29_0_0_01_0.start (ix1 k) idx 0 = (idx (ix1 0)).toInt :=
    congrArg (fun j => (idx j).toInt) (funext fun a => by fin_cases a; rfl)
  have h1 : scatter_S8x128_S2_S29_0_0_01_0.start (ix1 k) idx 1 = (idx (ix1 1)).toInt :=
    congrArg (fun j => (idx j).toInt) (funext fun a => by fin_cases a; rfl)
  have w0 : scatter_S8x128_S2_S29_0_0_01_0.window (ix1 k) 0 = 0 := rfl
  have w1 : scatter_S8x128_S2_S29_0_0_01_0.window (ix1 k) 1 = k.val := rfl
  rw [h0, h1, w0, w1]
  simp

/-- A written row at an index: the update's entries in lanes below 29 of that row, the old contents elsewhere. -/
theorem setRow_at (q : Fin 8) (T : Vec Ideal S8x128 .f32) (u : Vec Ideal S29 .f32) (i : Fin 8) (l : Fin 128) :
    setRow (BitVec.ofNat 32 q.val) T u (ix2 i l) = if h : i = q ∧ l.val < 29 then u (ix1 ⟨l.val, h.2⟩) else T (ix2 i l) := by
  unfold setRow
  have e0 : (concatenate S2 0 [⟨S1, (broadcastInDim S1 ![] bcast_S_S1 (constantI S_ 32 (BitVec.ofNat 32 q.val)))⟩, ⟨S1, (broadcastInDim S1 ![] bcast_S_S1 (constantI S_ 32 0#32))⟩] concatenates_S1_S1_S2_d0 : IVec S2 32) (ix1 0) = BitVec.ofNat 32 q.val := by
    pointwise
  have e1 : (concatenate S2 0 [⟨S1, (broadcastInDim S1 ![] bcast_S_S1 (constantI S_ 32 (BitVec.ofNat 32 q.val)))⟩, ⟨S1, (broadcastInDim S1 ![] bcast_S_S1 (constantI S_ 32 0#32))⟩] concatenates_S1_S1_S2_d0 : IVec S2 32) (ix1 1) = 0#32 := by
    pointwise
  have hq : (BitVec.ofNat 32 q.val).toInt = (q.val : Int) := by revert q; decide
  generalize (concatenate S2 0 [⟨S1, (broadcastInDim S1 ![] bcast_S_S1 (constantI S_ 32 (BitVec.ofNat 32 q.val)))⟩, ⟨S1, (broadcastInDim S1 ![] bcast_S_S1 (constantI S_ 32 0#32))⟩] concatenates_S1_S1_S2_d0 : IVec S2 32) = idx at e0 e1 ⊢
  have key : ∀ k : Fin 29, scatter_S8x128_S2_S29_0_0_01_0.resultIdx? (ix1 k) idx = some (ix2 i l) ↔ i = q ∧ k.val = l.val := fun k => by
    rw [lands_iff, e0, e1, hq]
    constructor
    · rintro ⟨a, b⟩; exact ⟨Fin.ext (by omega), by simpa using b⟩
    · rintro ⟨a, b⟩; exact ⟨by rw [a], by simpa using b⟩
  by_cases h : i = q ∧ l.val < 29
  · rw [dif_pos h]
    refine Routing.scatter_set_hit _ _ _ _ _ _ (fun k hk => ?_) (ix1 ⟨l.val, h.2⟩) ((key _).2 ⟨h.1, rfl⟩)
    rw [eq_ix1 k] at hk ⊢
    exact congrArg (fun z => u (ix1 z)) (Fin.ext ((key _).1 hk).2)
  · rw [dif_neg h]
    refine Routing.scatter_set_miss _ _ _ _ _ fun k hk => h ?_
    rw [eq_ix1 k] at hk
    have := (key _).1 hk
    exact ⟨this.1, this.2 ▸ (k 0).isLt⟩

/-- The table the host builds from the weights. -/
def tableOf (w : Vec Ideal S29x1 .f32) : Vec Ideal S8x128 .f32 :=
  setRow 1#32 (setRow 0#32 (broadcastInDim S8x128 ![] bcast_S_S8x128 (constant (F := Ideal) S_ .f32 0x00000000#32)) (fun i => FloatOps.ofBits (F := Ideal) .f32 (lit0 (S29.rowMajor i))))
    (Host.divf (F := Ideal) (φ := .f32) (shapeCast S29 w shapeCasts_S29x1_S29) (broadcastInDim S29 ![] bcast_S_S29 (constant (F := Ideal) S_ .f32 0x47800000#32)))

/-- Row 0 of the table: the factors, then zeros. -/
theorem tableOf_at_0 (w : Vec Ideal S29x1 .f32) (l : Fin 128) :
    tableOf w (ix2 0 l) = if h : l.val < 29 then Ideal.ofBits .f32 (lit0 ⟨l.val, h⟩) else 0 := by
  unfold tableOf
  rw [show (1#32 : BitVec 32) = BitVec.ofNat 32 (1 : Fin 8).val from rfl, show (0#32 : BitVec 32) = BitVec.ofNat 32 (0 : Fin 8).val from rfl, setRow_at, dif_neg (fun q => absurd q.1 (by decide)), setRow_at]
  by_cases h : l.val < 29
  · rw [dif_pos ⟨rfl, h⟩, dif_pos h]
    exact congrArg (fun z => Ideal.ofBits .f32 (lit0 z)) (Fin.ext (Shape.rowMajor_val_one _))
  · rw [dif_neg (fun q => h q.2), dif_neg h]
    pointwise

/-- Row 1 of the table: the weights over the number of pairs, then zeros. -/
theorem tableOf_at_1 (w : Vec Ideal S29x1 .f32) (l : Fin 128) :
    tableOf w (ix2 1 l) = if h : l.val < 29 then Ideal.div (w (ix2 ⟨l.val, h⟩ 0)) (Ideal.ofBits .f32 0x47800000#32) else 0 := by
  unfold tableOf
  rw [show (1#32 : BitVec 32) = BitVec.ofNat 32 (1 : Fin 8).val from rfl, show (0#32 : BitVec 32) = BitVec.ofNat 32 (0 : Fin 8).val from rfl, setRow_at]
  by_cases h : l.val < 29
  · rw [dif_pos ⟨rfl, h⟩, dif_pos h]
    pointwise
  · rw [dif_neg (fun q => h q.2), dif_neg h, setRow_at, dif_neg (fun q => h q.2)]
    pointwise

variable (m : (ℓ : Loc nD τ sig) → Buf (Elt Ideal) ℓ) (c : Dev nD)

/-- The table's buffer, as the grid finds it. -/
theorem V_table : V (F := Ideal) m c main_v11 = tableOf (m ((c.tc : Thread nD τ).loc main_arg2)) := by
  unfold V
  after_reads_simp
  rfl

/-- The first operand's buffer, as the grid finds it. -/
theorem V_first : V (F := Ideal) m c main_v12 = shapeCast S16384x8x512 (m ((c.tc : Thread nD τ).loc main_arg0)) shapeCasts_S131072x512_S16384x8x512 := by
  unfold V
  after_reads_simp
  rfl

/-- The second operand's buffer, as the grid finds it. -/
theorem V_second : V (F := Ideal) m c main_v13 = shapeCast S16384x8x512 (m ((c.tc : Thread nD τ).loc main_arg1)) shapeCasts_S131072x512_S16384x8x512 := by
  unfold V
  after_reads_simp
  rfl

/-- A regrouped operand at an index: group `t`'s row `r` is row `8 t + r`. -/
theorem regrouped_at (A : Vec Ideal S131072x512 .f32) (t : Fin 16384) (r : Fin 8) (x : Fin 512) :
    shapeCast S16384x8x512 A shapeCasts_S131072x512_S16384x8x512 (ix3 t r x) = A (ix2 ⟨t.val * 8 + r.val, by omega⟩ x) := by
  pointwise

end Cert.KernelIdeal.Entry
-- ==== Proof.Region.lean ====
module

public import proofs.«01_k».proof.Proof.Block
public import proofs.«01_k».proof.Proof.Entry
public import Idealize.ShloMosaic.Lib.Pipeline.ValueKit.Point

@[expose] public section

set_option maxRecDepth 16384

noncomputable section

/-! # The array the grid leaves, and the sum after it

Grid point `t` takes groups `512 t` to `512 t + 511` of both operands and the whole table, and fills row `t` of the result
array with its one value. The host then adds the rows' first lanes. -/

namespace Cert.KernelIdeal.Region

open Idealize.ShloMosaic Cert.KernelIdeal Cert.KernelIdeal.Gen Cert.KernelIdeal.Block Cert.KernelIdeal.Entry Idealize.ShloMosaic.Pointwise

/-- The block of an operand that grid point `t` takes. -/
def blockOf (A : Vec Ideal S131072x512 .f32) (t : Fin 32) : Vec Ideal S512x8x512 .f32 :=
  fun j => A (ix2 ⟨(t.val * 512 + (j 0).val) * 8 + (j 1).val, by
    have h0 : (j 0).val < 512 := (j 0).isLt
    have h1 : (j 1).val < 8 := (j 1).isLt
    omega⟩ (j 2))

/-- The value of grid point `t`. -/
def pointValue (A B : Vec Ideal S131072x512 .f32) (w : Vec Ideal S29x1 .f32) (t : Fin 32) : EReal :=
  part (blockOf A t) (blockOf B t) (tableOf w)

/-- The windows' block indices, at every grid point. -/
theorem idx : ∀ t : Fin cfg0.N, win0_0.index t = ![t.val, 0, 0] ∧ win0_1.index t = ![t.val, 0, 0] ∧ win0_2.index t = ![0, 0]
    ∧ win0_3.index t = ![t.val, 0, 0] :=
  (by decide +kernel : ∀ t : Fin grid0.N, _)

variable (m : (ℓ : Loc nD τ sig) → Buf (Elt Ideal) ℓ) (c : Dev nD)

/-- Where an index of the first operand's block lies in the regrouped operand. -/
theorem place_first (t : Fin cfg0.N) (j : S512x8x512.Idx) :
    (win0_0.blk t).view.emb j = (ix3 ⟨t.val * 512 + (j 0).val, by have : (j 0).val < 512 := (j 0).isLt; have : t.val < 32 := t.isLt; omega⟩ (j 1) (j 2) : S16384x8x512.Idx) := by
  blk_ext [(idx t).1]

/-- Where an index of the second operand's block lies in the regrouped operand. -/
theorem place_second (t : Fin cfg0.N) (j : S512x8x512.Idx) :
    (win0_1.blk t).view.emb j = (ix3 ⟨t.val * 512 + (j 0).val, by have : (j 0).val < 512 := (j 0).isLt; have : t.val < 32 := t.isLt; omega⟩ (j 1) (j 2) : S16384x8x512.Idx) := by
  blk_ext [(idx t).2.1]

/-- The table's block is the whole table. -/
theorem place_table (t : Fin cfg0.N) (j : S8x128.Idx) : (win0_2.blk t).view.emb j = (j : S8x128.Idx) := by
  blk_ext [(idx t).2.2.1]

/-- The first operand's block at a grid point. -/
theorem iblk_first (t : Fin cfg0.N) : iblk m c 0 t = blockOf (m ((c.tc : Thread nD τ).loc main_arg0)) t := by
  funext j
  blk_simp [iblk]
  rw [V_first, place_first]
  exact regrouped_at _ _ _ _

/-- The second operand's block at a grid point. -/
theorem iblk_second (t : Fin cfg0.N) : iblk m c 1 t = blockOf (m ((c.tc : Thread nD τ).loc main_arg1)) t := by
  funext j
  blk_simp [iblk]
  rw [V_second, place_second]
  exact regrouped_at _ _ _ _

/-- The table at a grid point. -/
theorem iblk_table (t : Fin cfg0.N) : iblk m c 2 t = tableOf (m ((c.tc : Thread nD τ).loc main_arg2)) := by
  funext j
  blk_simp [iblk]
  rw [V_table, place_table]

/-- Row `t` of the result array is what grid point `t` writes. -/
theorem place_result (t : Fin cfg0.N) (y : S1x1x128.Idx) : (win0_3.blk t).view.emb y (0 : Fin 3) = t := by
  apply Fin.ext
  blk_simp [(idx t).2.2.2]

/-- The result array after the grid. -/
theorem final (c : Dev nD) : (dats m 0 c).arrAt 3 cfg0.N = fun j => pointValue (m ((c.tc : Thread nD τ).loc main_arg0)) (m ((c.tc : Thread nD τ).loc main_arg1)) (m ((c.tc : Thread nD τ).loc main_arg2)) (j 0) := by
  refine (dats m 0 c).arrAt_eq_of_covers 3 _ (by decide +kernel) fun t hf y => ?_
  blk_simp
  rw [after0_3]
  refine (stored_at _ _ _ y).trans ?_
  rw [iblk_first, iblk_second, iblk_table, place_result]
  rfl

/-- The sum of the rows' first lanes. -/
theorem sum_lanes (R : Vec Ideal S32x1x128 .f32) (j : S1.Idx) :
    shapeCast S1 (Host.reduceAdd (F := Ideal) (φ := .f32) (shapeCast S32 (extractStridedSlice S32x1x1 ![0, 0, 0] R slices_S32x1x128_S32x1x1_0_0_0) shapeCasts_S32x1x1_S32)
      (constant S_ .f32 0#32) reducesTo_S32_S_d0 h_S_) shapeCasts_S_S1 j = ∑ t : Fin 32, R (ix3 t 0 0) := by
  pointwise

/-- The result buffer at the end: the host's sum. -/
theorem tail : Pipeline.afterTail₀ cfgs (dats m) 0 (V0 m) [hostOps1] c main_v18 = fun _ => ∑ t : Fin 32, pointValue (m ((c.tc : Thread nD τ).loc main_arg0)) (m ((c.tc : Thread nD τ).loc main_arg1)) (m ((c.tc : Thread nD τ).loc main_arg2)) t := by
  unfold Pipeline.afterTail₀
  after_reads_simp
  have e : Pipeline.withArrays (cfgs 0).spec c (V0 m c) (fun w => (dats m 0 c).arrAt w (cfgs 0).N) (Proc.tc.devRef main_v14)
      = (dats m 0 c).arrAt 3 cfg0.N :=
    Pipeline.withArrays_arr (cfgs 0).spec (by decide) c (V0 m c) (fun w => (dats m 0 c).arrAt w (cfgs 0).N) 3
  rw [e, final]
  funext j
  exact sum_lanes _ j

end Cert.KernelIdeal.Region
-- ==== Proof.RefAt.lean ====
module

public import proofs.«01_k».proof.Proof.Gen.ReferenceIdeal.Run
public import Idealize.ShloMosaic.Lib.Pointwise
public import Idealize.ShloMosaic.Init

@[expose] public section

set_option maxRecDepth 16384

noncomputable section

namespace Cert.ReferenceIdeal.At

open Idealize.ShloMosaic Cert.ReferenceIdeal Cert.ReferenceIdeal.Gen Cert.ReferenceIdeal.Value Idealize.ShloMosaic.Pointwise

/-- The first rows of the consecutive pairs of an operand. -/
def firsts (A : Vec Ideal S131072x512 .f32) : Vec Ideal S65536x512 .f32 :=
  shapeCast _ (extractStridedSlice S65536x1x512 ![0, 0, 0] (shapeCast _ A shapeCasts_S131072x512_S65536x2x512) slices_S65536x2x512_S65536x1x512_0_0_0) shapeCasts_S65536x1x512_S65536x512

/-- The second rows of the consecutive pairs of an operand. -/
def seconds (A : Vec Ideal S131072x512 .f32) : Vec Ideal S65536x512 .f32 :=
  shapeCast _ (extractStridedSlice S65536x1x512 ![0, 1, 0] (shapeCast _ A shapeCasts_S131072x512_S65536x2x512) slices_S65536x2x512_S65536x1x512_0_1_0) shapeCasts_S65536x1x512_S65536x512

/-- The squared distances of the rows of two arrays, as a column. -/
def column (u v : Vec Ideal S65536x512 .f32) : Vec Ideal S65536x1 .f32 :=
  broadcastInDim S65536x1 ![0] bcast_S65536_S65536x1_0 (Host.reduceAdd (F := Ideal) (φ := .f32) (mulf (F := Ideal) (φ := .f32) (subf (F := Ideal) (φ := .f32) u v) (subf (F := Ideal) (φ := .f32) u v)) (constant S_ .f32 0x00000000#32) reducesTo_S65536x512_S65536_d1 h_S_)

/-- The four squared distances of every pair, side by side. -/
def dists (A B : Vec Ideal S131072x512 .f32) : Vec Ideal S65536x4 .f32 :=
  fn_main_v35 (F := Ideal) (column (firsts A) (seconds A)) (column (firsts B) (seconds B)) (column (firsts A) (seconds B)) (column (seconds A) (firsts B))

/-- The kernels' values: for every table entry, pair and column, the exponential of minus the distance times the entry. -/
def exps (D : Vec Ideal S65536x4 .f32) : Vec Ideal S29x65536x4 .f32 :=
  Host.exp (F := Ideal) (φ := .f32) (mulf (F := Ideal) (φ := .f32) (broadcastInDim S29x65536x4 ![0, 1, 2] bcast_S1x65536x4_S29x65536x4_0_1_2 (Host.negf (F := Ideal) (φ := .f32) (broadcastInDim S1x65536x4 ![1, 2] bcast_S65536x4_S1x65536x4_1_2 D))) (broadcastInDim S29x65536x4 ![0, 1, 2] bcast_S29x1x1_S29x65536x4_0_1_2 (broadcastInDim S29x1x1 ![0] bcast_S29_S29x1x1_0 (fun i => FloatOps.ofBits (F := Ideal) .f32 (lit0 (S29.rowMajor i))))))

/-- The first two columns added, the last two subtracted. -/
def combined (E : Vec Ideal S29x65536x4 .f32) : Vec Ideal S29x65536 .f32 :=
  subf (F := Ideal) (φ := .f32) (subf (F := Ideal) (φ := .f32) (addf (F := Ideal) (φ := .f32)
    (shapeCast _ (extractStridedSlice S29x65536x1 ![0, 0, 0] E slices_S29x65536x4_S29x65536x1_0_0_0) shapeCasts_S29x65536x1_S29x65536)
    (shapeCast _ (extractStridedSlice S29x65536x1 ![0, 0, 1] E slices_S29x65536x4_S29x65536x1_0_0_1) shapeCasts_S29x65536x1_S29x65536))
    (shapeCast _ (extractStridedSlice S29x65536x1 ![0, 0, 2] E slices_S29x65536x4_S29x65536x1_0_0_2) shapeCasts_S29x65536x1_S29x65536))
    (shapeCast _ (extractStridedSlice S29x65536x1 ![0, 0, 3] E slices_S29x65536x4_S29x65536x1_0_0_3) shapeCasts_S29x65536x1_S29x65536)

/-- The means over the pairs, weighted and added. -/
def weighted (H : Vec Ideal S29x65536 .f32) (w : Vec Ideal S29x1 .f32) : Vec Ideal S1 .f32 :=
  shapeCast _ (Host.dotGeneral (F := Ideal) (φ₁ := .f32) (φ₂ := .f32) dot_S1x29_S29x1_S1x1_1_0_0_1_n_n none (transpose S1x29 [1, 0] w transposes_S29x1_S1x29_1_0) (Host.divf (F := Ideal) (φ := .f32) (broadcastInDim S29x1 ![0] bcast_S29_S29x1_0 (Host.reduceAdd (F := Ideal) (φ := .f32) H (constant S_ .f32 0x00000000#32) reducesTo_S29x65536_S29_d1 h_S_)) (broadcastInDim S29x1 ![] bcast_S_S29x1 (constant (F := Ideal) S_ .f32 0x47800000#32)))) shapeCasts_S1x1_S1

/-- The reference's result is the stages above, one after the other. -/
theorem res_eq (m : (ℓ : Loc nD τ sig) → Buf (Elt Ideal) ℓ) (c : Dev nD) :
    res_main_v59 (F := Ideal) m c = weighted (combined (exps (dists (m ((c.tc : Thread nD τ).loc main_arg0)) (m ((c.tc : Thread nD τ).loc main_arg1))))) (m ((c.tc : Thread nD τ).loc main_arg2)) := rfl

/-- The first row of pair `p` is row `2 p` of the operand. -/
theorem firsts_at (A : Vec Ideal S131072x512 .f32) (p : Fin 65536) (x : Fin 512) :
    firsts A (ix2 p x) = A (ix2 ⟨p.val * 2, by omega⟩ x) := by
  pointwise [firsts]

/-- The second row of pair `p` is row `2 p + 1` of the operand. -/
theorem seconds_at (A : Vec Ideal S131072x512 .f32) (p : Fin 65536) (x : Fin 512) :
    seconds A (ix2 p x) = A (ix2 ⟨p.val * 2 + 1, by omega⟩ x) := by
  pointwise [seconds]

/-- The column at a pair. -/
theorem column_at (u v : Vec Ideal S65536x512 .f32) (p : Fin 65536) :
    column u v (ix2 p 0) = ∑ x, (u (ix2 p x) - v (ix2 p x)) * (u (ix2 p x) - v (ix2 p x)) := by
  pointwise [column]

/-- The exponentials at an entry, a pair and a column. -/
theorem exps_at (D : Vec Ideal S65536x4 .f32) (g : Fin 29) (p : Fin 65536) (q : Fin 4) :
    exps D (ix3 g p q) = Ideal.exp (- D (ix2 p q) * Ideal.ofBits .f32 (lit0 g)) := by
  pointwise [exps]
  rw [show S29.rowMajor (ix1 g) = g from Fin.ext (Shape.rowMajor_val_one _)]

/-- The combination at an entry and a pair. -/
theorem combined_at (E : Vec Ideal S29x65536x4 .f32) (g : Fin 29) (p : Fin 65536) :
    combined E (ix2 g p) = E (ix3 g p 0) + E (ix3 g p 1) - E (ix3 g p 2) - E (ix3 g p 3) := by
  pointwise [combined]

/-- The weighted sum of the means, at its one index. -/
theorem weighted_at (H : Vec Ideal S29x65536 .f32) (w : Vec Ideal S29x1 .f32) (j : S1.Idx) :
    weighted H w j = ∑ g : Fin 29, w (ix2 g 0) * Ideal.div (∑ p, H (ix2 g p)) (Ideal.ofBits .f32 0x47800000#32) := by
  pointwise [weighted]

/-- The first of the four columns. -/
theorem dists_at_0 (A B : Vec Ideal S131072x512 .f32) (p : Fin 65536) :
    dists A B (ix2 p 0) = column (firsts A) (seconds A) (ix2 p 0) := by
  unfold dists; pointwise [fn_main_v35]

/-- The second of the four columns. -/
theorem dists_at_1 (A B : Vec Ideal S131072x512 .f32) (p : Fin 65536) :
    dists A B (ix2 p 1) = column (firsts B) (seconds B) (ix2 p 0) := by
  unfold dists; pointwise [fn_main_v35]

/-- The third of the four columns. -/
theorem dists_at_2 (A B : Vec Ideal S131072x512 .f32) (p : Fin 65536) :
    dists A B (ix2 p 2) = column (firsts A) (seconds B) (ix2 p 0) := by
  unfold dists; pointwise [fn_main_v35]

/-- The last of the four columns. -/
theorem dists_at_3 (A B : Vec Ideal S131072x512 .f32) (p : Fin 65536) :
    dists A B (ix2 p 3) = column (seconds A) (firsts B) (ix2 p 0) := by
  unfold dists; pointwise [fn_main_v35]

/-- The squared distance of row `p` of one operand and row `q` of another. -/
def rowDist (A B : Vec Ideal S131072x512 .f32) (p q : Fin 131072) : EReal :=
  ∑ x : Fin 512, (A (ix2 p x) - B (ix2 q x)) * (A (ix2 p x) - B (ix2 q x))

/-- The combination of four exponentials the reference averages, for a pair and a table entry `t`. -/
def pairTerm (A B : Vec Ideal S131072x512 .f32) (p : Fin 65536) (t : EReal) : EReal :=
  Ideal.exp (- rowDist A A ⟨p.val * 2, by omega⟩ ⟨p.val * 2 + 1, by omega⟩ * t)
    + Ideal.exp (- rowDist B B ⟨p.val * 2, by omega⟩ ⟨p.val * 2 + 1, by omega⟩ * t)
    - Ideal.exp (- rowDist A B ⟨p.val * 2, by omega⟩ ⟨p.val * 2 + 1, by omega⟩ * t)
    - Ideal.exp (- rowDist A B ⟨p.val * 2 + 1, by omega⟩ ⟨p.val * 2, by omega⟩ * t)

/-- The combination the stages compute at an entry and a pair. -/
theorem pair_at (A B : Vec Ideal S131072x512 .f32) (p : Fin 65536) (g : Fin 29) :
    combined (exps (dists A B)) (ix2 g p) = pairTerm A B p (Ideal.ofBits .f32 (lit0 g)) := by
  rw [combined_at, exps_at, exps_at, exps_at, exps_at, dists_at_0, dists_at_1, dists_at_2, dists_at_3, column_at, column_at, column_at, column_at]
  simp only [firsts_at, seconds_at, pairTerm, rowDist]

/-- The weighted sum over the table of the means over the pairs. -/
def value (A B : Vec Ideal S131072x512 .f32) (w : Vec Ideal S29x1 .f32) : EReal :=
  ∑ g : Fin 29, w (ix2 g 0) * Ideal.div (∑ p, pairTerm A B p (Ideal.ofBits .f32 (lit0 g))) (Ideal.ofBits .f32 0x47800000#32)

/-- The stages, read at the one index of the result, are that sum. -/
theorem stages_at (A B : Vec Ideal S131072x512 .f32) (w : Vec Ideal S29x1 .f32) (j : S1.Idx) :
    weighted (combined (exps (dists A B))) w j = value A B w := by
  rw [weighted_at, value]
  refine Finset.sum_congr rfl fun g _ => congrArg (fun s => w (ix2 g 0) * Ideal.div s (Ideal.ofBits .f32 0x47800000#32)) (Finset.sum_congr rfl fun p _ => ?_)
  exact pair_at A B p g

/-- The reference's result is the weighted sum of the means. -/
theorem result_eq (m : (ℓ : Loc nD τ sig) → Buf (Elt Ideal) ℓ) (c : Dev nD) :
    res_main_v59 (F := Ideal) m c = fun _ => value (m ((c.tc : Thread nD τ).loc main_arg0)) (m ((c.tc : Thread nD τ).loc main_arg1)) (m ((c.tc : Thread nD τ).loc main_arg2)) :=
  (res_eq m c).trans (funext fun j => stages_at _ _ _ j)

end Cert.ReferenceIdeal.At
-- ==== Proof.Math.lean ====
module

public import proofs.«01_k».proof.Proof.Region
public import proofs.«01_k».proof.Proof.RefAt

@[expose] public section

set_option maxRecDepth 16384

noncomputable section

/-! # The two sums are equal

The kernel adds over grid points, groups, even rows and lanes; the reference adds over table entries the weighted means over
pairs. All the terms are real numbers once the weights are, so the sums may be exchanged. -/

namespace Cert.Sums

open Idealize.ShloMosaic Idealize.ShloMosaic.Pointwise Cert.KernelIdeal.Block Cert.KernelIdeal.Entry Cert.KernelIdeal.Region

/-! ## The table -/

/-- A 32-bit pattern that is neither zero, subnormal, infinite nor NaN, by its sign, exponent and fraction. -/
theorem pattern_value (b : BitVec 32) (neg : Bool) (ex fr : ℕ) (hn : (b.extractLsb' 31 1 == 1#1) = neg) (he : (b.extractLsb' 23 8).toNat = ex)
    (hf : (b.extractLsb' 0 23).toNat = fr) (h1 : ex ≠ 2 ^ 8 - 1) (h0 : ex ≠ 0) :
    Ideal.ofBits .f32 b = (((if neg then -1 else 1) * (2 ^ 23 + fr : ℕ) * (2 : ℝ) ^ ((ex : ℤ) - (2 ^ (8 - 1) - 1) - 23) : ℝ) : EReal) := by
  subst hn he hf
  unfold Ideal.ofBits Ideal.ieee
  dsimp only
  rw [if_neg h1, if_neg h0]
  rfl

/-- A table entry of the reference is a nonnegative real number, and the kernel's entry is its negative. -/
theorem table_entry (g : Fin 29) : ∃ s : ℝ, 0 ≤ s ∧ Ideal.ofBits .f32 (Cert.ReferenceIdeal.lit0 g) = (s : EReal)
    ∧ Ideal.ofBits .f32 (Cert.KernelIdeal.lit0 g) = ((-s : ℝ) : EReal) := by
  have key : ∀ g : Fin 29, ((Cert.ReferenceIdeal.lit0 g).extractLsb' 31 1 == 1#1) = false
      ∧ ((Cert.KernelIdeal.lit0 g).extractLsb' 31 1 == 1#1) = true
      ∧ (Cert.KernelIdeal.lit0 g).extractLsb' 23 8 = (Cert.ReferenceIdeal.lit0 g).extractLsb' 23 8
      ∧ (Cert.KernelIdeal.lit0 g).extractLsb' 0 23 = (Cert.ReferenceIdeal.lit0 g).extractLsb' 0 23
      ∧ ((Cert.ReferenceIdeal.lit0 g).extractLsb' 23 8).toNat ≠ 2 ^ 8 - 1 ∧ ((Cert.ReferenceIdeal.lit0 g).extractLsb' 23 8).toNat ≠ 0 := by
    decide +kernel
  obtain ⟨h1, h2, h3, h4, h5, h6⟩ := key g
  rw [pattern_value _ false _ _ h1 rfl rfl h5 h6, pattern_value _ true _ _ h2 (congrArg BitVec.toNat h3) (congrArg BitVec.toNat h4) h5 h6]
  refine ⟨_, ?_, rfl, ?_⟩
  · rw [if_neg Bool.false_ne_true]; positivity
  · congr 1
    rw [if_pos rfl, if_neg Bool.false_ne_true]
    ring

/-- The number of pairs, as a real number. -/
theorem count_eq : Ideal.ofBits .f32 0x47800000#32 = ((65536 : ℝ) : EReal) := by
  rw [pattern_value 0x47800000#32 false 143 0 (by decide) (by decide) (by decide) (by decide) (by decide)]
  norm_num

/-! ## Squares of differences -/

/-- The square of a difference of extended reals does not depend on the order. -/
theorem sq_comm (a b : EReal) : (a - b) * (a - b) = (b - a) * (b - a) := by
  induction a <;> induction b <;> try simp
  norm_cast
  ring

/-- A square of extended reals is not negative. -/
theorem sq_nonneg' (a : EReal) : 0 ≤ a * a := by
  induction a <;> try simp
  norm_cast
  exact mul_self_nonneg _

/-- A squared distance does not depend on the order of the two rows. -/
theorem sqDist_comm (u v : Fin 512 → EReal) : sqDist u v = sqDist v u :=
  Finset.sum_congr rfl fun x _ => sq_comm _ _

/-- A squared distance is not negative. -/
theorem sqDist_nonneg (u v : Fin 512 → EReal) : 0 ≤ sqDist u v :=
  Finset.sum_nonneg fun x _ => sq_nonneg' _

/-! ## The exponentials -/

/-- The exponential of minus a distance times a nonnegative factor, in either spelling, is one real number. -/
theorem exp_real (D : EReal) (hD : 0 ≤ D) (s : ℝ) (hs : 0 ≤ s) :
    ∃ e : ℝ, Ideal.exp (D * ((-s : ℝ) : EReal)) = (e : EReal) ∧ Ideal.exp (-D * (s : EReal)) = (e : EReal) := by
  have h : D * ((-s : ℝ) : EReal) = -D * (s : EReal) := by
    rw [EReal.coe_neg, mul_neg, neg_mul]
  rw [h]
  have h0 : 0 ≤ D * (s : EReal) := mul_nonneg hD (by exact_mod_cast hs)
  rw [neg_mul]
  generalize D * (s : EReal) = y at h0
  induction y with
  | bot => simp at h0
  | top => exact ⟨0, by simp, by simp⟩
  | coe r => exact ⟨Real.exp (-r), by rw [← EReal.coe_neg, Ideal.exp_coe], by rw [← EReal.coe_neg, Ideal.exp_coe]⟩

/-- The kernel's four exponentials with the factor `-s` are the reference's with the factor `s`, and one real number. -/
theorem four_real (u u' v v' : Fin 512 → EReal) (s : ℝ) (hs : 0 ≤ s) :
    ∃ h : ℝ, four u u' v v' ((-s : ℝ) : EReal) = (h : EReal)
      ∧ Ideal.exp (-sqDist u u' * (s : EReal)) + Ideal.exp (-sqDist v v' * (s : EReal)) - Ideal.exp (-sqDist u v' * (s : EReal))
        - Ideal.exp (-sqDist u' v * (s : EReal)) = (h : EReal) := by
  obtain ⟨a, a1, a2⟩ := exp_real _ (sqDist_nonneg u u') s hs
  obtain ⟨b, b1, b2⟩ := exp_real _ (sqDist_nonneg v v') s hs
  obtain ⟨e, e1, e2⟩ := exp_real _ (sqDist_nonneg u v') s hs
  obtain ⟨f, f1, f2⟩ := exp_real _ (sqDist_nonneg u' v) s hs
  refine ⟨a + b - e - f, ?_, ?_⟩
  · unfold four
    rw [sqDist_comm v u', a1, b1, e1, f1]
    norm_cast
  · rw [a2, b2, e2, f2]
    norm_cast

/-! ## Rearranging the sums -/

/-- A sum over the even ones of eight rows is a sum over four. -/
theorem sum_even {M : Type} [AddCommMonoid M] (f : Fin 8 → M) :
    (∑ r : Fin 8, if r.val % 2 = 0 then f r else 0) = ∑ q : Fin 4, f ⟨q.val * 2, by omega⟩ := by
  simp [Fin.sum_univ_eight, Fin.sum_univ_four]

/-- A sum over 128 lanes of terms that vanish from lane 29 on. -/
theorem sum_lanes_29 {M : Type} [AddCommMonoid M] (f : Fin 128 → M) (h : ∀ l : Fin 128, 29 ≤ l.val → f l = 0) :
    ∑ l : Fin 128, f l = ∑ g : Fin 29, f ⟨g.val, by omega⟩ := by
  refine (Fin.sum_univ_add (a := 29) (b := 99) f).trans ?_
  have z : ∑ i : Fin 99, f (Fin.natAdd 29 i) = 0 := Finset.sum_eq_zero fun i _ => h (Fin.natAdd 29 i) (Nat.le_add_right 29 _)
  rw [z, add_zero]
  rfl

/-- A double sum over `a` and `b` of terms that depend on `a n + b` is one sum. -/
theorem sum_pairs {M : Type} [AddCommMonoid M] (n k : ℕ) (F : ℕ → M) :
    ∑ a : Fin n, ∑ b : Fin k, F (a.val * k + b.val) = ∑ i : Fin (n * k), F i.val := by
  rw [← Fintype.sum_prod_type', ← Equiv.sum_comp finProdFinEquiv]
  refine Finset.sum_congr rfl fun x _ => congrArg F ?_
  rw [finProdFinEquiv_apply_val]
  ring

/-- A sum over grid points, groups and pairs of a group is a sum over all the pairs. -/
theorem sum_all {M : Type} [AddCommMonoid M] (F : Fin 65536 → M) :
    ∑ t : Fin 32, ∑ b : Fin 512, ∑ q : Fin 4, F ⟨(t.val * 512 + b.val) * 4 + q.val, by omega⟩ = ∑ p : Fin 65536, F p := by
  let G : ℕ → M := fun n => if h : n < 65536 then F ⟨n, h⟩ else 0
  have e : ∀ n (h : n < 65536), F ⟨n, h⟩ = G n := fun n h => by
    show _ = dite (n < 65536) _ _
    rw [dif_pos h]
  have e' : ∀ p : Fin 65536, F p = G p.val := fun p => e _ _
  simp only [e']
  rw [sum_pairs 32 512 (fun n => ∑ q : Fin 4, G (n * 4 + q.val)), sum_pairs (32 * 512) 4 G]

/-- A finite sum of real numbers, read in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## The kernel's sum, pair by pair -/

/-- One grid point's value: over its pairs, the sum over the table of the four exponentials times the divided weight. -/
theorem pointValue_eq (A B : Vec Ideal Cert.KernelIdeal.S131072x512 .f32) (w : Vec Ideal Cert.KernelIdeal.S29x1 .f32) (t : Fin 32) :
    pointValue A B w t = ∑ b : Fin 512, ∑ q : Fin 4, ∑ g : Fin 29,
      Cert.ReferenceIdeal.At.pairTerm A B ⟨(t.val * 512 + b.val) * 4 + q.val, by omega⟩ (Ideal.ofBits .f32 (Cert.ReferenceIdeal.lit0 g))
        * Ideal.div (w (ix2 g 0)) (Ideal.ofBits .f32 0x47800000#32) := by
  unfold pointValue part
  refine Finset.sum_congr rfl fun b _ => ?_
  have swap : ∀ r : Fin 8, ∀ f : Fin 128 → EReal, (∑ l : Fin 128, if r.val % 2 = 0 then f l else 0) = if r.val % 2 = 0 then ∑ l, f l else 0 := by
    intro r f
    split <;> simp
  simp only [swap]
  rw [sum_even]
  refine Finset.sum_congr rfl fun q _ => ?_
  rw [sum_lanes_29]
  · refine Finset.sum_congr rfl fun g _ => ?_
    rw [tableOf_at_0, tableOf_at_1, dif_pos g.isLt, dif_pos g.isLt]
    congr 1
    obtain ⟨s, hs, hr, hk⟩ := table_entry g
    rw [hr, hk]
    have lo : ∀ C : Vec Ideal Cert.KernelIdeal.S131072x512 .f32, (fun x => blockOf C t (ix3 b ⟨q.val * 2, by omega⟩ x))
        = fun x => C (ix2 ⟨((t.val * 512 + b.val) * 4 + q.val) * 2, by omega⟩ x) := fun C => funext fun x =>
      congrArg (fun z => C (ix2 z x)) (Fin.ext (show (t.val * 512 + b.val) * 8 + q.val * 2 = ((t.val * 512 + b.val) * 4 + q.val) * 2 by omega))
    have hi : ∀ C : Vec Ideal Cert.KernelIdeal.S131072x512 .f32, (fun x => blockOf C t (ix3 b (next ⟨q.val * 2, by omega⟩) x))
        = fun x => C (ix2 ⟨((t.val * 512 + b.val) * 4 + q.val) * 2 + 1, by omega⟩ x) := fun C => funext fun x =>
      congrArg (fun z => C (ix2 z x)) (Fin.ext (show (t.val * 512 + b.val) * 8 + (q.val * 2 + 8 - 7) % 8 = ((t.val * 512 + b.val) * 4 + q.val) * 2 + 1 by omega))
    rw [lo, hi, lo, hi]
    obtain ⟨h, h1, h2⟩ := four_real (fun x => A (ix2 ⟨((t.val * 512 + b.val) * 4 + q.val) * 2, by omega⟩ x))
      (fun x => A (ix2 ⟨((t.val * 512 + b.val) * 4 + q.val) * 2 + 1, by omega⟩ x))
      (fun x => B (ix2 ⟨((t.val * 512 + b.val) * 4 + q.val) * 2, by omega⟩ x))
      (fun x => B (ix2 ⟨((t.val * 512 + b.val) * 4 + q.val) * 2 + 1, by omega⟩ x)) s hs
    exact h1.trans h2.symm
  · intro l hl
    rw [tableOf_at_1, dif_neg (by omega), mul_zero]

/-- With real weights, the kernel's sum is the reference's. -/
theorem kernel_eq_reference (A B : Vec Ideal Cert.KernelIdeal.S131072x512 .f32) (w : Vec Ideal Cert.KernelIdeal.S29x1 .f32)
    (hw : ∀ g : Fin 29, ∃ x : ℝ, w (ix2 g 0) = (x : EReal)) :
    ∑ t : Fin 32, pointValue A B w t = Cert.ReferenceIdeal.At.value A B w := by
  simp only [pointValue_eq]
  rw [sum_all (fun p => ∑ g : Fin 29, Cert.ReferenceIdeal.At.pairTerm A B p (Ideal.ofBits .f32 (Cert.ReferenceIdeal.lit0 g))
        * Ideal.div (w (ix2 g 0)) (Ideal.ofBits .f32 0x47800000#32))]
  unfold Cert.ReferenceIdeal.At.value
  choose x hx using hw
  have hp : ∀ (p : Fin 65536) (g : Fin 29), ∃ h : ℝ, Cert.ReferenceIdeal.At.pairTerm A B p (Ideal.ofBits .f32 (Cert.ReferenceIdeal.lit0 g)) = (h : EReal) := by
    intro p g
    obtain ⟨s, hs, hr, -⟩ := table_entry g
    rw [hr]
    obtain ⟨h, -, h2⟩ := four_real (fun i => A (ix2 ⟨p.val * 2, by omega⟩ i)) (fun i => A (ix2 ⟨p.val * 2 + 1, by omega⟩ i))
      (fun i => B (ix2 ⟨p.val * 2, by omega⟩ i)) (fun i => B (ix2 ⟨p.val * 2 + 1, by omega⟩ i)) s hs
    exact ⟨h, h2⟩
  choose h hh using hp
  simp only [hh, hx, count_eq, Ideal.div_coe (by norm_num : (65536 : ℝ) ≠ 0), ← EReal.coe_mul, sum_coe]
  refine congrArg (fun z : ℝ => (z : EReal)) ?_
  rw [Finset.sum_comm]
  refine Finset.sum_congr rfl fun g _ => ?_
  rw [Finset.sum_mul, Finset.mul_sum]
  exact Finset.sum_congr rfl fun p _ => by ring

end Cert.Sums
-- ==== Proof.Pair.lean ====
/- The two programs' runs and the claim that their results agree. -/
module

public import proofs.«01_k».proof.Defs
public import proofs.«01_k».proof.Proof.Math
public import proofs.«01_k».proof.Proof.Gen.KernelIdeal.Frame
public import proofs.«01_k».proof.Proof.Gen.ReferenceIdeal.Run
public import Idealize.ShloMosaic.Lib.ReduceAll
public import Idealize.ShloMosaic.Lib.Claim
public import Idealize.ShloMosaic.Lib.Quiescent
public import Idealize.ShloMosaic.Lib.Pointwise

@[expose] public section

noncomputable section

namespace Cert.Pair

open Idealize.ShloMosaic Idealize.ShloMosaic.TcCoe Idealize.SL.Sem

/-- The side conditions of the precondition's operations hold. -/
instance preFacts : Cert.Pre_betas_finite.Facts where
  bcast_S_S29x1 := by decide
  reducesTo_S29x1_S_d0_1 := by decide
  h_S_ := by decide

/-- The bit pattern the precondition compares with is plus infinity. -/
theorem inf_value : Ideal.ofBits .f32 0x7F800000#32 = (⊤ : EReal) := by
  simp [Ideal.ofBits, Ideal.ieee]

/-- An extended real whose absolute value lies below plus infinity is a real number. -/
theorem real_of_abs_lt (x : EReal) (h : max x (-x) < ⊤) : ∃ r : ℝ, x = (r : EReal) := by
  induction x using EReal.rec with
  | bot => simp at h
  | coe r => exact ⟨r, rfl⟩
  | top => simp at h

/-- Where the precondition holds, every weight is a real number. -/
theorem weights_real (A B : Vec Ideal Cert.Pre_betas_finite.S131072x512 .f32) (w : Vec Ideal Cert.Pre_betas_finite.S29x1 .f32)
    (h : Cert.Pre_betas_finite.fn (F := Ideal) A B w = fun _ => 1#1) (g : Fin 29) : ∃ r : ℝ, w (ix2 g 0) = (r : EReal) := by
  have e := congrFun h (fun a => a.elim0)
  haveI : Subsingleton Cert.Pre_betas_finite.S_.Idx := ⟨fun a b => funext fun x => x.elim0⟩
  have k := Host.reduce_andi_all _ _ _ _ _ e (ix2 g 0)
  refine real_of_abs_lt _ ?_
  have k' : BitVec.ofBool (decide (max (w (ix2 g 0)) (-w (ix2 g 0)) < Ideal.ofBits .f32 0x7F800000#32)) = 1#1 := k
  rw [inf_value] at k'
  by_contra n
  rw [decide_eq_false n] at k'
  exact absurd k' (by decide)

/-- The idealized kernel's run: the result is the sum of what the grid points store, and the arguments end unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v18)
        = (fun _ => ∑ t : Fin 32, Cert.KernelIdeal.Region.pointValue
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) t)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨((h.1 c).2 Cert.KernelIdeal.main_v18 (Pipeline.mem_restRefs_of Cert.KernelIdeal.main_v18 (by decide) (by decide))).trans (Cert.KernelIdeal.Region.tail m c),
      h.2 c⟩)
    (θ_run_and (Cert.KernelIdeal.Gen.run_main m g) (Cert.KernelIdeal.Gen.unchanged m g))

/-- The reference runs, its arguments end unchanged, and it has no counter that could end away from zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems rfl r.2⟩)
    (Cert.ReferenceIdeal.Value.run m g)

/-- Under the precondition the kernel and the reference end with the same result. -/
theorem algebraic : Cert.algebraic_KernelIdeal_ReferenceIdeal_pre_betas_finite := by
  intro m g m' g' hpre hagree
  refine ⟨_, kernel_run m g, (θ_run Cert.ReferenceIdeal.defs _ _).mono (fun _ h c => ⟨?_, (h c).2⟩) (Cert.ReferenceIdeal.Value.run m' g')⟩
  refine (h c).1.trans ((Cert.ReferenceIdeal.At.result_eq m' c).trans ?_)
  rw [(hagree c).1, (hagree c).2.1, (hagree c).2.2]
  exact funext fun _ => (Cert.Sums.kernel_eq_reference _ _ _ (weights_real _ _ _ (hpre c))).symm

end Cert.Pair

end
-- ==== Proof.lean ====
/- The certificate's theorem: the five claims about the kernel, its idealization and the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Pair
public import Idealize.ShloMosaic.Adequacy
public import Idealize.ShloMosaic.Init
public import proofs.«01_k».proof.Proof.Gen.ReferenceIdeal.Run

@[expose] public section

noncomputable section

namespace Cert.Proof

open Idealize.ShloMosaic Idealize.SL.Sem Cert.Kernel

/-- Every claim of the certificate, with the witnesses of the side conditions the programs state. -/
theorem claim : Cert.Claim :=
  ⟨Cert.Kernel.Gen.facts, Cert.KernelIdeal.Gen.facts, Cert.ReferenceIdeal.Gen.facts, Cert.Pair.preFacts,
    fun m g _ => Cert.Kernel.Gen.frame m g,
    fun m g _ => Cert.KernelIdeal.Gen.frame m g,
    fun m g _ => Cert.KernelIdeal.Gen.frame m g,
    fun m g _ => Cert.Pair.reference_frame m g,
    fun m g _ => Cert.Pair.reference_frame m g,
    trivial, Cert.Pair.algebraic⟩

end Cert.Proof

end
